-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1 : Shape := ⟨1, ![1]⟩
abbrev S8192 : Shape := ⟨1, ![8192]⟩
abbrev S8192x8192 : Shape := ⟨2, ![8192, 8192]⟩
abbrev S3x8192 : Shape := ⟨2, ![3, 8192]⟩
abbrev S1x8192 : Shape := ⟨2, ![1, 8192]⟩
abbrev S1x3 : Shape := ⟨2, ![1, 3]⟩
abbrev S512x8192 : Shape := ⟨2, ![512, 8192]⟩
abbrev S_ : Shape := ⟨0, ![]⟩
abbrev S1x1x8192 : Shape := ⟨3, ![1, 1, 8192]⟩
abbrev S1x1x1 : Shape := ⟨3, ![1, 1, 1]⟩
abbrev S1x512 : Shape := ⟨2, ![1, 512]⟩
abbrev S3x512 : Shape := ⟨2, ![3, 512]⟩
abbrev S3 : Shape := ⟨1, ![3]⟩

abbrev nBuf : Space → Nat
  | .hbm => 11
  | .vmem => 6
  | .smem => 1
  | _ => 0

abbrev bufTy : (tb : Table) → Fin (tcTables nBuf tb) → BufTy
  | .hbm, ⟨0, _⟩ => ⟨S1, .f32⟩
  | .hbm, ⟨1, _⟩ => ⟨S8192, .f32⟩
  | .hbm, ⟨2, _⟩ => ⟨S8192x8192, .f32⟩
  | .hbm, ⟨3, _⟩ => ⟨S8192, .f32⟩
  | .hbm, ⟨4, _⟩ => ⟨S8192, .f32⟩
  | .hbm, ⟨5, _⟩ => ⟨S3x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x3, .f32⟩
  | .hbm, ⟨10, _⟩ => ⟨S3, .f32⟩
  | .local _ .vmem, ⟨0, _⟩ => ⟨S1x3, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S3x8192, .f32⟩
  | .local _ .vmem, ⟨5, _⟩ => ⟨S512x8192, .f32⟩
  | .local _ .smem, ⟨0, _⟩ => ⟨S1, .f32⟩
  | _, _ => ⟨S1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg1_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_stg0_0 : Ref sig .tc := ⟨.smem, 0, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

@[reducible] def k0_t1_loop : Scf.Loop 32 :=
  let c0_i32_15 : BitVec 32 := 0#32
  let c16_i32 : BitVec 32 := 16#32
  let v27 : BitVec 32 := Scalar.addi c0_i32_15 c16_i32
  let c1_i32 : BitVec 32 := 1#32
  ⟨c0_i32_15, v27, c1_i32⟩
def k0_off1 (k0_t1 : Fin k0_t1_loop.trips) : Fin 2 → Nat :=
  let c0_i32_15 : BitVec 32 := 0#32
  let c1_i32 : BitVec 32 := 1#32
  let arg17 : BitVec 32 := Scf.iv c0_i32_15 c1_i32 k0_t1
  let c512_i32 : BitVec 32 := 512#32
  let v30 : BitVec 32 := Scalar.muli arg17 c512_i32
  let c0_i32_19 : BitVec 32 := 0#32
  ![v30.toNat, 0]
def k0_off2 (k0_t1 : Fin k0_t1_loop.trips) : Fin 2 → Nat :=
  let c0_25 : Index := 0#32
  let c0_i32_15 : BitVec 32 := 0#32
  let c1_i32 : BitVec 32 := 1#32
  let arg17 : BitVec 32 := Scf.iv c0_i32_15 c1_i32 k0_t1
  let c512_i32_24 : BitVec 32 := 512#32
  let v35 : BitVec 32 := Scalar.muli arg17 c512_i32_24
  let v36 : Index := Scalar.indexCast v35
  ![0, v36.toNat]
def k0_off3 (k0_t1 : Fin k0_t1_loop.trips) : Fin 2 → Nat :=
  let c0_30 : Index := 0#32
  let c0_i32_15 : BitVec 32 := 0#32
  let c1_i32 : BitVec 32 := 1#32
  let arg17 : BitVec 32 := Scf.iv c0_i32_15 c1_i32 k0_t1
  let c512_i32_24 : BitVec 32 := 512#32
  let v35 : BitVec 32 := Scalar.muli arg17 c512_i32_24
  let v52 : Index := Scalar.indexCast v35
  ![0, v52.toNat]
abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x3 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S1 : Shape := ⟨1, ![1]⟩
abbrev S8192 : Shape := ⟨1, ![8192]⟩
abbrev S8192x8192 : Shape := ⟨2, ![8192, 8192]⟩
abbrev S3x8192 : Shape := ⟨2, ![3, 8192]⟩
abbrev S_ : Shape := ⟨0, ![]⟩
abbrev S8192x1 : Shape := ⟨2, ![8192, 1]⟩
abbrev S3x1 : Shape := ⟨2, ![3, 1]⟩
abbrev S3 : Shape := ⟨1, ![3]⟩

abbrev nBuf : Space → Nat
  | .hbm => 22
  | .vmem => 0
  | .smem => 0
  | _ => 0

abbrev bufTy : (tb : Table) → Fin (tcTables nBuf tb) → BufTy
  | .hbm, ⟨0, _⟩ => ⟨S1, .f32⟩
  | .hbm, ⟨1, _⟩ => ⟨S8192, .f32⟩
  | .hbm, ⟨2, _⟩ => ⟨S8192x8192, .f32⟩
  | .hbm, ⟨3, _⟩ => ⟨S8192, .f32⟩
  | .hbm, ⟨4, _⟩ => ⟨S8192, .f32⟩
  | .hbm, ⟨5, _⟩ => ⟨S3x8192, .f32⟩
  | .hbm, ⟨6, _⟩ => ⟨S8192, .f32⟩
  | .hbm, ⟨7, _⟩ => ⟨S8192, .f32⟩
  | .hbm, ⟨8, _⟩ => ⟨S8192, .f32⟩
  | .hbm, ⟨9, _⟩ => ⟨S8192, .f32⟩
  | .hbm, ⟨10, _⟩ => ⟨S8192, .f32⟩
  | .hbm, ⟨11, _⟩ => ⟨S8192, .f32⟩
  | .hbm, ⟨12, _⟩ => ⟨S_, .f32⟩
  | .hbm, ⟨13, _⟩ => ⟨S8192, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .f32⟩
  | .hbm, ⟨18, _⟩ => ⟨S8192, .f32⟩
  | .hbm, ⟨19, _⟩ => ⟨S8192x1, .f32⟩
  | .hbm, ⟨20, _⟩ => ⟨S3x1, .f32⟩
  | .hbm, ⟨21, _⟩ => ⟨S3, .f32⟩
  | _, _ => ⟨S1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩

abbrev nD : Nat := 1
abbrev τ : Topo := Topo.v7x

variable {F : FTy → Type} [FloatOps F]
-- ==== Proof.IdealSetup.lean ====
/-
  The launch's set-up for the program `KernelIdeal`, one step above the generated kit: the kernel starts
  copies of its own, so the run is stated over the algebra that also counts transfers (`Pipeline.UD`).
  Here are the names of the buffers and semaphores the body is called with, the invariant listed
  conjunct by conjunct, and what the host lines before and after the kernel leave alone.
-/
module

public import proofs.«01_k».proof.Proof.Gen.KernelIdeal.Frame
public import proofs.«01_k».proof.Proof.Gen.KernelIdeal.Loops
public import Idealize.ShloMosaic.Lib.Claim

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (Pipeline.UD sig nD τ) ℕ

variable (m : (ℓ : Loc nD τ sig) → Buf (Elt F) ℓ)

/-! ## The buffers and the semaphores of the body -/

/-- The kernel's scratch buffers: the state, the input weights, the bias, the output weights, one block of `W`. -/
abbrev hScr : Memref sig .tc .vmem S1x8192 .f32 := Memref.whole cc0_scratch0
abbrev wiScr : Memref sig .tc .vmem S1x8192 .f32 := Memref.whole cc0_scratch1
abbrev wbScr : Memref sig .tc .vmem S1x8192 .f32 := Memref.whole cc0_scratch2
abbrev woScr : Memref sig .tc .vmem S3x8192 .f32 := Memref.whole cc0_scratch3
abbrev wScr : Memref sig .tc .vmem S512x8192 .f32 := Memref.whole cc0_scratch4

/-- The operands left in HBM: the state, the input weights, the bias, the output weights, `W`. -/
abbrev hHbm : Memref sig .tc .hbm S1x8192 .f32 := Memref.whole main_v0
abbrev wiHbm : Memref sig .tc .hbm S1x8192 .f32 := Memref.whole main_v1
abbrev wbHbm : Memref sig .tc .hbm S1x8192 .f32 := Memref.whole main_v2
abbrev woHbm : Memref sig .tc .hbm S3x8192 .f32 := Memref.whole main_arg5
abbrev wHbm : Memref sig .tc .hbm S8192x8192 .f32 := Memref.whole main_arg2

/-- What a memref's buffer on core `c` may hold. -/
abbrev HeldBuf (c : Dev nD) {sp : Space} {S : Shape} {e : EltTy} (M : Memref sig .tc sp S e) : Type :=
  Buf (Elt F) (M.view.loc (c : Thread nD τ))

/-- A memref's buffer on core `c`, held whole at `f`. -/
abbrev heldAt (c : Dev nD) {sp : Space} {S : Shape} {e : EltTy} (M : Memref sig .tc sp S e)
    (f : HeldBuf (F := F) c M) : sProp 𝕄 :=
  M.view.loc (c : Thread nD τ) ↦{fullShare} f

/-- The five semaphores the body's own copies signal. -/
abbrev ownCells : Fin 5 → SemLoc sig := fun j =>
  (![SemLoc.dma 2, SemLoc.dma 3, SemLoc.dma 4, SemLoc.dma 5, SemLoc.dma 6] : Fin 5 → SemLoc sig) j

/-- None of them belongs to a window of the pipeline. -/
theorem ownCells_facts : Pipeline.OwnSemFacts spec0 ownCells := by decide

/-- The five semaphores at zero, one by one. -/
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0) := by
  rw [Pipeline.ownSems0_eq_of_list c ownCells [0, 1, 2, 3, 4] (by decide) (by decide)]; rfl

/-- The arrays the body's own copies read. -/
def copied : Finset (Ref sig .tc) := {main_v0, main_v1, main_v2, main_arg5, main_arg2}

/-- They are arrays no window of the pipeline stages. -/
theorem copied_sub : copied ⊆ Pipeline.restRefs sig spec0 := by decide

/-- The copied arrays at what the region finds in them, one by one. -/
theorem copied_eq (c : Dev nD) :
    (bigSep copied (fun b => ((c : Thread nD τ).loc b) ↦{fullShare} V m c b) : sProp 𝕄)
      = iprop(heldAt c hHbm (V m c main_v0) ∗ heldAt c wiHbm (V m c main_v1) ∗ heldAt c wbHbm (V m c main_v2)
        ∗ heldAt c woHbm (V m c main_arg5) ∗ heldAt c wHbm (V m c main_arg2)) := by
  rw [BI.bigSep_eq_bigSepL_of_eq [main_v0, main_v1, main_v2, main_arg5, main_arg2] (by decide) (by decide)]; rfl

/-- The body's invariant, conjunct by conjunct: the scratch buffers at some contents, the generator register, the five
    semaphores at zero, the copied arrays at what the region finds in them. -/
theorem invariant_eq (c : Dev nD) :
    (Pipeline.ΦD ownCells spec0 copied (V m) c : sProp 𝕄)
      = iprop(iprop((∃ d, owns (c : Thread nD τ) hScr fullShare d) ∗ (∃ d, owns (c : Thread nD τ) wiScr fullShare d)
          ∗ (∃ d, owns (c : Thread nD τ) wbScr fullShare d) ∗ (∃ d, owns (c : Thread nD τ) woScr fullShare d)
          ∗ (∃ d, owns (c : Thread nD τ) wScr fullShare d))
        ∗ (∃ r, prngReg c r)
        ∗ iprop(semVal ((c : Thread nD τ), SemLoc.dma 2) 0 ∗ semVal ((c : Thread nD τ), SemLoc.dma 3) 0
          ∗ semVal ((c : Thread nD τ), SemLoc.dma 4) 0 ∗ semVal ((c : Thread nD τ), SemLoc.dma 5) 0
          ∗ semVal ((c : Thread nD τ), SemLoc.dma 6) 0)
        ∗ iprop(heldAt c hHbm (V m c main_v0) ∗ heldAt c wiHbm (V m c main_v1) ∗ heldAt c wbHbm (V m c main_v2)
          ∗ heldAt c woHbm (V m c main_arg5) ∗ heldAt c wHbm (V m c main_arg2))) := by
  rw [Pipeline.ΦD_eq, scopedRest0_eq, ownCells_eq, copied_eq]
  simp only [hScr, wiScr, wbScr, woScr, wScr, owns_whole]
  try rfl

/-! ## The host lines around the kernel -/

set_option maxHeartbeats 800000 in
/-- @main is the host lines before the kernel, the kernel, and the host line after it. -/
theorem main_around (𝒱₀ : Variants) :
    Pipeline.HMainK (Ix := Unit) (Name := ℕ) (U := Pipeline.UD sig nD τ) (Lvl := ℕ) cfgs 0 defs₀ 𝒱₀ m (main (F := F)) (V m)
      (fun _ => Pipeline.chain ([hostOps1].map StableHlo.seq)) :=
  Pipeline.hmain_around cfgs 0 defs₀ 𝒱₀ m main [hostOps0] [hostOps1] (by simp only [List.Forall]; exact hostOps0_sub)
    (by simp only [List.Forall]; exact hostOps0_fresh) main_chain

/-- The host line after the kernel touches none of the copied arrays. -/
theorem tail_apart : ∀ ops ∈ ([hostOps1] : List (List (HloOp τ sig (Elt F)))), ∀ op ∈ ops,
    op.bufs ⊆ Pipeline.tailRefsBut sig Pipeline.Prefetch.none spec0 copied := by
  intro ops hops op hop
  obtain rfl := List.mem_singleton.mp hops
  refine Pipeline.sub_tailRefsBut Pipeline.Prefetch.none spec0 copied op
    ((List.forall_iff_forall_mem.mp hostOps1_sub) op hop) (fun j => j.elim0) ?_
  obtain rfl := List.mem_singleton.mp hop
  intro b hb
  simp only [copied, Finset.mem_insert, Finset.mem_singleton] at hb
  rcases hb with rfl | rfl | rfl | rfl | rfl <;>
    simp only [StableHlo.reshape_bufs, Finset.mem_insert, Finset.mem_singleton, not_or] <;> and_intros <;>
    exact StableHlo.devRef_ne_of_ne (by decide)

/-- The host line after the kernel writes the result buffer only: every other buffer no window stages ends at what the
    region found in it. -/
theorem tail_keeps (dats : (p : Fin 1) → (c : Dev nD) → Dat τ (Elt F) Unit ℕ (Pipeline.UD sig nD τ) ℕ (cfgs p) c)
    (c : Dev nD) (b : Ref sig .tc) (hb : b ≠ main_v4) (hw : ∀ w, Pipeline.arrRef spec0 w ≠ b) :
    Pipeline.afterTail₀ cfgs dats 0 (V0 m) [hostOps1] c b = V m c b := by
  unfold Pipeline.afterTail₀
  rw [StableHlo.after_of_forall_not_mem (b := Proc.devRef .tc b) _ _ (List.forall_iff_forall_mem.mp (by
      simp only [hostOps1, List.flatten_cons, List.flatten_nil, List.append_nil, List.Forall,
        StableHlo.reshape_writes, Finset.mem_singleton]
      exact StableHlo.devRef_ne_of_ne hb)),
    Pipeline.withArrays_of_ne _ c (V0 m c) _ b hw]

end Cert.KernelIdeal.Hand

end
-- ==== Proof.IdealBlock.lean ====
/-
  What the kernel body of `KernelIdeal` computes, as functions of whole vectors with no memory in sight: the block of
  rows or columns a trip of the loop reads, what one trip adds, the sum after `n` trips, and the result block by cases
  on the body's test of the state.
-/
module

public import proofs.«01_k».proof.Proof.IdealSetup

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

/-- The block of 512 rows of `W` trip `k` copies in. -/
def rowsAt (W : Vec F S8192x8192 .f32) (k : Fin k0_t1_loop.trips) : Vec F S512x8192 .f32 :=
  View.ld W (Rect.unit (s := S8192x8192) (k0_off1 k) S512x8192.size (k0_off1_inb k))

/-- The 512 entries of a row vector trip `k` reads. -/
def colsAt (v : Vec F S1x8192 .f32) (k : Fin k0_t1_loop.trips) : Vec F S1x512 .f32 :=
  View.ld v (Rect.unit (s := S1x8192) (k0_off2 k) S1x512.size (k0_off2_inb k))

/-- The 512 columns of the output weights trip `k` reads. -/
def outColsAt (wo : Vec F S3x8192 .f32) (k : Fin k0_t1_loop.trips) : Vec F S3x512 .f32 :=
  View.ld wo (Rect.unit (s := S3x8192) (k0_off3 k) S3x512.size (k0_off3_inb k))

/-- One trip: the accumulator with the trip's block of 512 new states, times its output weights, added. -/
def stepAt (x : F .f32) (h wi wb : Vec F S1x8192 .f32) (wo : Vec F S3x8192 .f32) (W : Vec F S8192x8192 .f32)
    (k : Fin k0_t1_loop.trips) (acc : FVec F S1x3 .f32) : FVec F S1x3 .f32 :=
  k0_pay4 x h acc (rowsAt W k) (colsAt wi k) (colsAt wb k) (colsAt h k) (outColsAt wo k)

/-- The accumulator before trip `n`. -/
def sumTo (x : F .f32) (h wi wb : Vec F S1x8192 .f32) (wo : Vec F S3x8192 .f32) (W : Vec F S8192x8192 .f32) :
    ℕ → FVec F S1x3 .f32
  | 0 => k0_pay3
  | n + 1 => if hn : n < k0_t1_loop.trips then stepAt x h wi wb wo W ⟨n, hn⟩ (sumTo x h wi wb wo W n)
      else sumTo x h wi wb wo W n

/-- The body's test: whether the smallest of the flags "this entry of the state is zero" is above zero. -/
abbrev zeroTest (h : Vec F S1x8192 .f32) : BitVec 1 :=
  Scalar.cmpf .ogt (k0_pay1 h) (Scalar.ofBits .f32 0x00000000#32)

/-- What the body leaves in the result block: the short product when the test holds, else the whole loop's sum. -/
def bodyOut (x : F .f32) (h wi wb : Vec F S1x8192 .f32) (wo : Vec F S3x8192 .f32) (W : Vec F S8192x8192 .f32) :
    Vec F S1x3 .f32 :=
  if zeroTest h = 1#1 then k0_pay2 x wi wb wo else sumTo x h wi wb wo W k0_t1_loop.trips

/-- The scalar input: the one word of its block. -/
def scalarOf (x : Vec F S1 .f32) : F .f32 :=
  View.ld x (Rect.unit (s := S1) ![0] S1.size inb_S1_S1_0) (Shape.Idx.first (by decide))

end Cert.KernelIdeal.Hand

end
-- ==== Proof.IdealTrip.lean ====
/-
  The loop of `KernelIdeal`'s body, trip by trip, read as vectors: what a trip of the generated run yields is `stepAt`,
  so what the loop yields is `sumTo` at the number of trips. Also the small facts about the body's two branches and about
  a load of a buffer that one copy filled.
-/
module

public import proofs.«01_k».proof.Proof.IdealBlock
public import Idealize.ShloMosaic.Lib.VecWindow

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

/-- A condition word that is `0` does not take its branch. -/
theorem branch_off {z : BitVec 1} (hz : z = 0#1) : ¬ (Scalar.cmpi .ne (Scalar.extui z : BitVec 32) 0#32 = 1#1) := by
  subst hz; decide

/-- A condition word that is `1` takes its branch. -/
theorem branch_on {z : BitVec 1} (hz : z = 1#1) : Scalar.cmpi .ne (Scalar.extui z : BitVec 32) 0#32 = 1#1 := by
  subst hz; decide

/-- The complement of `0` takes its branch. -/
theorem other_on {z : BitVec 1} (hz : z = 0#1) :
    Scalar.cmpi .ne (Scalar.extui (Scalar.xori z 1#1) : BitVec 32) 0#32 = 1#1 := by
  subst hz; decide

/-- The complement of `1` does not take its branch. -/
theorem other_off {z : BitVec 1} (hz : z = 1#1) :
    ¬ (Scalar.cmpi .ne (Scalar.extui (Scalar.xori z 1#1) : BitVec 32) 0#32 = 1#1) := by
  subst hz; decide

/-- A load of a whole buffer that one copy filled reads what the copy brought. -/
theorem landed {S : Shape} {e : EltTy} {sp : Space} (v : View sig .tc sp S e) {off : Fin S.rank → ℕ}
    (inb : ∀ a, off a + S.size a ≤ S.size a) (d : S.Idx → Elt F e) :
    v.readCov [(⟨Rect.whole S, d⟩ : View.Piece (Elt F) S e)] (Rect.unit off S.size inb).toLoadRect = d :=
  View.readCov_full (off' := fun _ => 0) v inb (fun _ => (Nat.zero_add _).le) d []

/-- A buffer one copy filled, read whole, is what the copy brought. -/
theorem filled {S : Shape} {e : EltTy} {sp : Space} (v : View sig .tc sp S e) (f : v.ty.Contents (Elt F))
    (d : S.Idx → Elt F e) :
    v.read (Elt F) (v.writes (Elt F) f [(⟨Rect.whole S, d⟩ : View.Piece (Elt F) S e)]) = d :=
  View.read_writes_full (off := fun _ => 0) v f (fun _ => (Nat.zero_add _).le) d []

/-- The body's test, on the state as it was copied into its scratch buffer. -/
theorem test_landed (v : View sig .tc .vmem S1x8192 .f32) {d : S1x8192.Idx → Elt F .f32} {z : F .f32} {b : BitVec 1}
    (inb : ∀ a, (![0, 0] : Fin 2 → ℕ) a + S1x8192.size a ≤ S1x8192.size a)
    (hz : Scalar.cmpf .ogt (k0_pay1 d) z = b) :
    Scalar.cmpf .ogt (k0_pay1 (v.readCov [(⟨Rect.whole S1x8192, d⟩ : View.Piece (Elt F) S1x8192 .f32)]
      (Rect.unit (s := S1x8192) ![0, 0] S1x8192.size inb).toLoadRect)) z = b := by
  rw [landed]; exact hz

/-- What the generated run of one trip yields: the trip's payload on the blocks it reads. -/
theorem trip_yields (𝒱 : Variants) (c : Dev nD) (bd : Option 𝒱.V)
    (arg0 : Memref sig .tc .smem S1 .f32) (harg0 : arg0.IsWhole) (arg1 : Memref sig .tc .hbm S1x8192 .f32) (harg1 : arg1.IsWhole)
    (arg2 : Memref sig .tc .hbm S1x8192 .f32) (harg2 : arg2.IsWhole) (arg3 : Memref sig .tc .hbm S1x8192 .f32) (harg3 : arg3.IsWhole)
    (arg4 : Memref sig .tc .hbm S3x8192 .f32) (harg4 : arg4.IsWhole) (arg5 : Memref sig .tc .hbm S8192x8192 .f32) (harg5 : arg5.IsWhole)
    (arg6 : Memref sig .tc .vmem S1x3 .f32) (harg6 : arg6.IsWhole) (arg7 : Memref sig .tc .vmem S1x8192 .f32) (harg7 : arg7.IsWhole)
    (arg8 : Memref sig .tc .vmem S1x8192 .f32) (harg8 : arg8.IsWhole) (arg9 : Memref sig .tc .vmem S1x8192 .f32) (harg9 : arg9.IsWhole)
    (arg10 : Memref sig .tc .vmem S3x8192 .f32) (harg10 : arg10.IsWhole) (arg11 : Memref sig .tc .vmem S512x8192 .f32) (harg11 : arg11.IsWhole)
    (arg12 arg13 arg14 arg15 arg16 : DmaSems sig S_) (v0 : Elt F .f32) (v25 : Vec F S1x8192 .f32)
    (X7 : BufTy.Contents (Elt F) arg7.view.ty) (X8 : BufTy.Contents (Elt F) arg8.view.ty) (X9 : BufTy.Contents (Elt F) arg9.view.ty)
    (X10 : BufTy.Contents (Elt F) arg10.view.ty) (X5 : BufTy.Contents (Elt F) arg5.view.ty)
    (k : Fin k0_t1_loop.trips) (acc : FVec F S1x3 .f32) :
    tripR_k0_t1 𝒱 c bd arg0 harg0 arg1 harg1 arg2 harg2 arg3 harg3 arg4 harg4 arg5 harg5 arg6 harg6 arg7 harg7 arg8 harg8 arg9 harg9
        arg10 harg10 arg11 harg11 arg12 arg13 arg14 arg15 arg16 v0 v25 X7 X8 X9 X10 X5 k acc
      = k0_pay4 v0 v25 acc (rowsAt (arg5.view.read (Elt F) X5) k) (colsAt (arg8.view.read (Elt F) X8) k)
          (colsAt (arg9.view.read (Elt F) X9) k) (colsAt (arg7.view.read (Elt F) X7) k)
          (outColsAt (arg10.view.read (Elt F) X10) k) := by
  have hrows : trip_k0_t1.sl.v33 arg5 arg11 X5 k = rowsAt (arg5.view.read (Elt F) X5) k := by
    unfold trip_k0_t1.sl.v33
    rw [landed]
    rfl
  unfold tripR_k0_t1 trip_k0_t1
  show k0_pay4 v0 v25 acc (trip_k0_t1.sl.v33 arg5 arg11 X5 k) _ _ _ _ = _
  rw [hrows]
  rfl

/-- What the loop yields after `n` trips: `sumTo`, on the vectors its buffers read as. -/
theorem loop_yields (𝒱 : Variants) (c : Dev nD) (bd : Option 𝒱.V)
    (arg0 : Memref sig .tc .smem S1 .f32) (harg0 : arg0.IsWhole) (arg1 : Memref sig .tc .hbm S1x8192 .f32) (harg1 : arg1.IsWhole)
    (arg2 : Memref sig .tc .hbm S1x8192 .f32) (harg2 : arg2.IsWhole) (arg3 : Memref sig .tc .hbm S1x8192 .f32) (harg3 : arg3.IsWhole)
    (arg4 : Memref sig .tc .hbm S3x8192 .f32) (harg4 : arg4.IsWhole) (arg5 : Memref sig .tc .hbm S8192x8192 .f32) (harg5 : arg5.IsWhole)
    (arg6 : Memref sig .tc .vmem S1x3 .f32) (harg6 : arg6.IsWhole) (arg7 : Memref sig .tc .vmem S1x8192 .f32) (harg7 : arg7.IsWhole)
    (arg8 : Memref sig .tc .vmem S1x8192 .f32) (harg8 : arg8.IsWhole) (arg9 : Memref sig .tc .vmem S1x8192 .f32) (harg9 : arg9.IsWhole)
    (arg10 : Memref sig .tc .vmem S3x8192 .f32) (harg10 : arg10.IsWhole) (arg11 : Memref sig .tc .vmem S512x8192 .f32) (harg11 : arg11.IsWhole)
    (arg12 arg13 arg14 arg15 arg16 : DmaSems sig S_)
    (X7 : BufTy.Contents (Elt F) arg7.view.ty) (X8 : BufTy.Contents (Elt F) arg8.view.ty) (X9 : BufTy.Contents (Elt F) arg9.view.ty)
    (X10 : BufTy.Contents (Elt F) arg10.view.ty) (X5 : BufTy.Contents (Elt F) arg5.view.ty)
    (x : F .f32) (h wi wb : Vec F S1x8192 .f32) (wo : Vec F S3x8192 .f32) (W : Vec F S8192x8192 .f32)
    (h7 : arg7.view.read (Elt F) X7 = h) (h8 : arg8.view.read (Elt F) X8 = wi) (h9 : arg9.view.read (Elt F) X9 = wb)
    (h10 : arg10.view.read (Elt F) X10 = wo) (h5 : arg5.view.read (Elt F) X5 = W) (n : ℕ) (hn : n ≤ k0_t1_loop.trips) :
    st_k0_t1 𝒱 c bd arg0 harg0 arg1 harg1 arg2 harg2 arg3 harg3 arg4 harg4 arg5 harg5 arg6 harg6 arg7 harg7 arg8 harg8 arg9 harg9
        arg10 harg10 arg11 harg11 arg12 arg13 arg14 arg15 arg16 x h X7 X8 X9 X10 X5 k0_pay3 n
      = sumTo x h wi wb wo W n := by
  induction n with
  | zero => exact st_k0_t1_zero ..
  | succ n ih =>
    have hlt : n < k0_t1_loop.trips := hn
    refine (st_k0_t1_succ 𝒱 c bd arg0 harg0 arg1 harg1 arg2 harg2 arg3 harg3 arg4 harg4 arg5 harg5 arg6 harg6 arg7 harg7 arg8 harg8
      arg9 harg9 arg10 harg10 arg11 harg11 arg12 arg13 arg14 arg15 arg16 x h X7 X8 X9 X10 X5 k0_pay3 ⟨n, hlt⟩).trans ?_
    rw [trip_yields, h7, h8, h9, h10, h5, ih hlt.le, sumTo, dif_pos hlt]
    rfl

end Cert.KernelIdeal.Hand

end
-- ==== Proof.IdealDense.lean ====
/-
  The run of `KernelIdeal`'s body when its test of the state fails: the four copies land, the loop copies and multiplies
  sixteen blocks of `W`, and the result block ends at the loop's sum.
-/
module

public import proofs.«01_k».proof.Proof.IdealTrip

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (Pipeline.UD sig nD τ) ℕ

set_option maxHeartbeats 1000000 in
/-- The body when the test fails: from the inputs held, the scratch buffers at anything and the semaphores at zero, it runs to
    the end with every input as it was, every semaphore at zero again, and the result block holding the loop's whole sum. -/
theorem dense_run (c : Dev nD) (arg0 : Memref sig .tc .smem S1 .f32) (harg0 : arg0.IsWhole)
    (arg6 : Memref sig .tc .vmem S1x3 .f32) (harg6 : arg6.IsWhole)
    (x : Vec F S1 .f32) (h : HeldBuf (F := F) c hHbm) (wi : HeldBuf (F := F) c wiHbm) (wb : HeldBuf (F := F) c wbHbm)
    (wo : HeldBuf (F := F) c woHbm) (w : HeldBuf (F := F) c wHbm)
    (hz : zeroTest (hHbm.view.read (Elt F) h) = 0#1)
    (P : Waits sig Unit) (K : PUnit → sProp 𝕄) :
    iprop(owns (c : Thread nD τ) arg0 fullShare x ∗ (∃ d, owns (c : Thread nD τ) arg6 fullShare d)
        ∗ (∃ d, owns (c : Thread nD τ) hScr fullShare d) ∗ (∃ d, owns (c : Thread nD τ) wiScr fullShare d)
        ∗ (∃ d, owns (c : Thread nD τ) wbScr fullShare d) ∗ (∃ d, owns (c : Thread nD τ) woScr fullShare d)
        ∗ (∃ d, owns (c : Thread nD τ) wScr fullShare d)
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0
        ∗ heldAt c hHbm h ∗ heldAt c wiHbm wi ∗ heldAt c wbHbm wb ∗ heldAt c woHbm wo ∗ heldAt c wHbm w
        ∗ owes (c : Thread nD τ) 0 P
        ∗ (iprop(owns (c : Thread nD τ) arg0 fullShare x
            ∗ owns (c : Thread nD τ) arg6 fullShare (sumTo (scalarOf x) (hHbm.view.read (Elt F) h) (wiHbm.view.read (Elt F) wi) (wbHbm.view.read (Elt F) wb)
                  (woHbm.view.read (Elt F) wo) (wHbm.view.read (Elt F) w) k0_t1_loop.trips)
            ∗ (∃ d, owns (c : Thread nD τ) hScr fullShare d) ∗ (∃ d, owns (c : Thread nD τ) wiScr fullShare d)
            ∗ (∃ d, owns (c : Thread nD τ) wbScr fullShare d) ∗ (∃ d, owns (c : Thread nD τ) woScr fullShare d)
            ∗ (∃ d, owns (c : Thread nD τ) wScr fullShare d)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0
            ∗ heldAt c hHbm h ∗ heldAt c wiHbm wi ∗ heldAt c wbHbm wb ∗ heldAt c woHbm wo ∗ heldAt c wHbm w
            ∗ (∃ P', owes (c : Thread nD τ) 0 P')) -∗ K ⟨⟩))
      ⊢ wp frame (wpE (defs₀ (F := F)) Variants.none c none) Set.univ
          (cc0__body arg0 harg0 hHbm (Memref.isWhole_whole _) wiHbm (Memref.isWhole_whole _) wbHbm (Memref.isWhole_whole _)
            woHbm (Memref.isWhole_whole _) wHbm (Memref.isWhole_whole _) arg6 harg6 hScr (Memref.isWhole_whole _)
            wiScr (Memref.isWhole_whole _) wbScr (Memref.isWhole_whole _) woScr (Memref.isWhole_whole _)
            wScr (Memref.isWhole_whole _) cc0_scratch5 cc0_scratch6 cc0_scratch7 cc0_scratch8 cc0_scratch9) K := by
  simp only [cc0__body_eq_skeleton]; unfold cc0__body_skel
  unfold owns
  iintro ⟨⟨%f0, %hf0, H0⟩, ⟨%d1, %f1, -, H1⟩, ⟨%ds0, %fs0, -, HS0⟩, ⟨%ds1, %fs1, -, HS1⟩, ⟨%ds2, %fs2, -, HS2⟩,
    ⟨%ds3, %fs3, -, HS3⟩, ⟨%ds4, %fs4, -, HS4⟩, Hq0, Hq1, Hq2, Hq3, Hq4, Hh0, Hh1, Hh2, Hh3, Hh4, HP, Hk⟩
  obtain rfl := harg0.eq_unread hf0
  sl_exec (disch := first
      | ((with_reducible show ¬ (dense_run.sl.v21 c h = 1#1)); exact branch_off (test_landed _ _ hz))
      | ((with_reducible show dense_run.sl.v24 c h = 1#1); exact other_on (test_landed _ _ hz)))
  sl_step
  iapply Hk
  isplitl [H0]
  · iexists _; isplitr; · ipureintro; exact harg0.read_unread _
    iexact H0
  isplitl [H1]
  · iexists _; isplitr; swap; · iexact H1
    ipureintro
    rw [View.read_writes_full]
    rw [show dense_run.sl.r c arg0 harg0 x = scalarOf x from by
        unfold dense_run.sl.r; rw [View.readAt_eq_ld, harg0.read_unread]; rfl,
      show dense_run.sl.v9 c h = hHbm.view.read (Elt F) h from landed ..]
    exact loop_yields (h7 := filled ..) (h8 := filled ..) (h9 := filled ..) (h10 := filled ..) (h5 := rfl) (hn := le_rfl) ..
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  iexists _; iexact HP

end Cert.KernelIdeal.Hand

end
-- ==== Proof.IdealFast.lean ====
/-
  The run of `KernelIdeal`'s body when its test of the state holds: the four copies land, no block of `W` is read, and the
  result block ends at the short product.
-/
module

public import proofs.«01_k».proof.Proof.IdealTrip

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (Pipeline.UD sig nD τ) ℕ

set_option maxHeartbeats 1000000 in
/-- The body when the test holds: the same resources, no block of `W` copied, and the result block holding the short product. -/
theorem fast_run (c : Dev nD) (arg0 : Memref sig .tc .smem S1 .f32) (harg0 : arg0.IsWhole)
    (arg6 : Memref sig .tc .vmem S1x3 .f32) (harg6 : arg6.IsWhole)
    (x : Vec F S1 .f32) (h : HeldBuf (F := F) c hHbm) (wi : HeldBuf (F := F) c wiHbm) (wb : HeldBuf (F := F) c wbHbm)
    (wo : HeldBuf (F := F) c woHbm) (w : HeldBuf (F := F) c wHbm)
    (hz : zeroTest (hHbm.view.read (Elt F) h) = 1#1)
    (P : Waits sig Unit) (K : PUnit → sProp 𝕄) :
    iprop(owns (c : Thread nD τ) arg0 fullShare x ∗ (∃ d, owns (c : Thread nD τ) arg6 fullShare d)
        ∗ (∃ d, owns (c : Thread nD τ) hScr fullShare d) ∗ (∃ d, owns (c : Thread nD τ) wiScr fullShare d)
        ∗ (∃ d, owns (c : Thread nD τ) wbScr fullShare d) ∗ (∃ d, owns (c : Thread nD τ) woScr fullShare d)
        ∗ (∃ d, owns (c : Thread nD τ) wScr fullShare d)
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0
        ∗ heldAt c hHbm h ∗ heldAt c wiHbm wi ∗ heldAt c wbHbm wb ∗ heldAt c woHbm wo ∗ heldAt c wHbm w
        ∗ owes (c : Thread nD τ) 0 P
        ∗ (iprop(owns (c : Thread nD τ) arg0 fullShare x
            ∗ owns (c : Thread nD τ) arg6 fullShare (k0_pay2 (scalarOf x) (wiHbm.view.read (Elt F) wi) (wbHbm.view.read (Elt F) wb) (woHbm.view.read (Elt F) wo))
            ∗ (∃ d, owns (c : Thread nD τ) hScr fullShare d) ∗ (∃ d, owns (c : Thread nD τ) wiScr fullShare d)
            ∗ (∃ d, owns (c : Thread nD τ) wbScr fullShare d) ∗ (∃ d, owns (c : Thread nD τ) woScr fullShare d)
            ∗ (∃ d, owns (c : Thread nD τ) wScr fullShare d)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0
            ∗ heldAt c hHbm h ∗ heldAt c wiHbm wi ∗ heldAt c wbHbm wb ∗ heldAt c woHbm wo ∗ heldAt c wHbm w
            ∗ (∃ P', owes (c : Thread nD τ) 0 P')) -∗ K ⟨⟩))
      ⊢ wp frame (wpE (defs₀ (F := F)) Variants.none c none) Set.univ
          (cc0__body arg0 harg0 hHbm (Memref.isWhole_whole _) wiHbm (Memref.isWhole_whole _) wbHbm (Memref.isWhole_whole _)
            woHbm (Memref.isWhole_whole _) wHbm (Memref.isWhole_whole _) arg6 harg6 hScr (Memref.isWhole_whole _)
            wiScr (Memref.isWhole_whole _) wbScr (Memref.isWhole_whole _) woScr (Memref.isWhole_whole _)
            wScr (Memref.isWhole_whole _) cc0_scratch5 cc0_scratch6 cc0_scratch7 cc0_scratch8 cc0_scratch9) K := by
  simp only [cc0__body_eq_skeleton]; unfold cc0__body_skel
  unfold owns
  iintro ⟨⟨%f0, %hf0, H0⟩, ⟨%d1, %f1, -, H1⟩, ⟨%ds0, %fs0, -, HS0⟩, ⟨%ds1, %fs1, -, HS1⟩, ⟨%ds2, %fs2, -, HS2⟩,
    ⟨%ds3, %fs3, -, HS3⟩, ⟨%ds4, %fs4, -, HS4⟩, Hq0, Hq1, Hq2, Hq3, Hq4, Hh0, Hh1, Hh2, Hh3, Hh4, HP, Hk⟩
  obtain rfl := harg0.eq_unread hf0
  sl_exec (disch := first
      | ((with_reducible show fast_run.sl.v21 c h = 1#1); exact branch_on (test_landed _ _ hz))
      | ((with_reducible show ¬ (fast_run.sl.v24 c h = 1#1)); exact other_off (test_landed _ _ hz)))
  sl_step
  iapply Hk
  isplitl [H0]
  · iexists _; isplitr; · ipureintro; exact harg0.read_unread _
    iexact H0
  isplitl [H1]
  · iexists _; isplitr; swap; · iexact H1
    ipureintro
    rw [View.read_writes_full]
    rw [show fast_run.sl.r c arg0 harg0 x = scalarOf x from by
        unfold fast_run.sl.r; rw [View.readAt_eq_ld, harg0.read_unread]; rfl,
      show fast_run.sl.v1 c wi = wiHbm.view.read (Elt F) wi from landed ..,
      show fast_run.sl.v4 c wb = wbHbm.view.read (Elt F) wb from landed ..,
      show fast_run.sl.v25 c wo = woHbm.view.read (Elt F) wo from landed ..]

  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  iexists _; iexact HP

end Cert.KernelIdeal.Hand

end
-- ==== Proof.IdealFrame.lean ====
/-
  The launch of `KernelIdeal`: the body's run by cases on its test, the pipeline's proof data, the body obligation at the
  one point of the grid, and from the launch theorem the run of @main — what the result array holds at the end, every
  argument unchanged, every semaphore at zero.
-/
module

public import proofs.«01_k».proof.Proof.IdealDense
public import proofs.«01_k».proof.Proof.IdealFast
public import Idealize.ShloMosaic.Lib.Pipeline.ValueKit

@[expose] public section

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen

variable {F : FTy → Type} [FloatOps F]

local notation "𝕄" => MT nD τ sig Unit (Elt F) ℕ (Pipeline.UD sig nD τ) ℕ

/-- A one-bit word is `0` or `1`. -/
theorem bit_cases (b : BitVec 1) : b = 0#1 ∨ b = 1#1 := by
  revert b; decide

/-- The body, whichever way its test goes: every input as it was, every semaphore at zero again, and the result block at
    `bodyOut` of what the inputs hold. -/
theorem body_run (c : Dev nD) (arg0 : Memref sig .tc .smem S1 .f32) (harg0 : arg0.IsWhole)
    (arg6 : Memref sig .tc .vmem S1x3 .f32) (harg6 : arg6.IsWhole)
    (x : Vec F S1 .f32) (h : HeldBuf (F := F) c hHbm) (wi : HeldBuf (F := F) c wiHbm) (wb : HeldBuf (F := F) c wbHbm)
    (wo : HeldBuf (F := F) c woHbm) (w : HeldBuf (F := F) c wHbm)
    (P : Waits sig Unit) (K : PUnit → sProp 𝕄) :
    iprop(owns (c : Thread nD τ) arg0 fullShare x ∗ (∃ d, owns (c : Thread nD τ) arg6 fullShare d)
        ∗ (∃ d, owns (c : Thread nD τ) hScr fullShare d) ∗ (∃ d, owns (c : Thread nD τ) wiScr fullShare d)
        ∗ (∃ d, owns (c : Thread nD τ) wbScr fullShare d) ∗ (∃ d, owns (c : Thread nD τ) woScr fullShare d)
        ∗ (∃ d, owns (c : Thread nD τ) wScr fullShare d)
        ∗ semVal ((c : Thread nD τ), SemLoc.dma 2) 0 ∗ semVal ((c : Thread nD τ), SemLoc.dma 3) 0
        ∗ semVal ((c : Thread nD τ), SemLoc.dma 4) 0 ∗ semVal ((c : Thread nD τ), SemLoc.dma 5) 0
        ∗ semVal ((c : Thread nD τ), SemLoc.dma 6) 0
        ∗ heldAt c hHbm h ∗ heldAt c wiHbm wi ∗ heldAt c wbHbm wb ∗ heldAt c woHbm wo ∗ heldAt c wHbm w
        ∗ owes (c : Thread nD τ) 0 P
        ∗ (iprop(owns (c : Thread nD τ) arg0 fullShare x
            ∗ owns (c : Thread nD τ) arg6 fullShare (bodyOut (scalarOf x) (hHbm.view.read (Elt F) h) (wiHbm.view.read (Elt F) wi) (wbHbm.view.read (Elt F) wb)
                  (woHbm.view.read (Elt F) wo) (wHbm.view.read (Elt F) w))
            ∗ (∃ d, owns (c : Thread nD τ) hScr fullShare d) ∗ (∃ d, owns (c : Thread nD τ) wiScr fullShare d)
            ∗ (∃ d, owns (c : Thread nD τ) wbScr fullShare d) ∗ (∃ d, owns (c : Thread nD τ) woScr fullShare d)
            ∗ (∃ d, owns (c : Thread nD τ) wScr fullShare d)
            ∗ semVal ((c : Thread nD τ), SemLoc.dma 2) 0 ∗ semVal ((c : Thread nD τ), SemLoc.dma 3) 0
            ∗ semVal ((c : Thread nD τ), SemLoc.dma 4) 0 ∗ semVal ((c : Thread nD τ), SemLoc.dma 5) 0
            ∗ semVal ((c : Thread nD τ), SemLoc.dma 6) 0
            ∗ heldAt c hHbm h ∗ heldAt c wiHbm wi ∗ heldAt c wbHbm wb ∗ heldAt c woHbm wo ∗ heldAt c wHbm w
            ∗ (∃ P', owes (c : Thread nD τ) 0 P')) -∗ K ⟨⟩))
      ⊢ wp frame (wpE (defs₀ (F := F)) Variants.none c none) Set.univ
          (cc0__body arg0 harg0 hHbm (Memref.isWhole_whole _) wiHbm (Memref.isWhole_whole _) wbHbm (Memref.isWhole_whole _)
            woHbm (Memref.isWhole_whole _) wHbm (Memref.isWhole_whole _) arg6 harg6 hScr (Memref.isWhole_whole _)
            wiScr (Memref.isWhole_whole _) wbScr (Memref.isWhole_whole _) woScr (Memref.isWhole_whole _)
            wScr (Memref.isWhole_whole _) cc0_scratch5 cc0_scratch6 cc0_scratch7 cc0_scratch8 cc0_scratch9) K := by
  rcases bit_cases (zeroTest (hHbm.view.read (Elt F) h)) with hz | hz
  · unfold bodyOut
    rw [if_neg (by rw [hz]; decide)]
    exact dense_run c arg0 harg0 arg6 harg6 x h wi wb wo w hz P K
  · unfold bodyOut
    rw [if_pos hz]
    exact fast_run c arg0 harg0 arg6 harg6 x h wi wb wo w hz P K

variable (m : (ℓ : Loc nD τ sig) → Buf (Elt F) ℓ) (ρ : Dev nD → PrngReg)

/-- The result block at the launch contents of core `c`'s arrays. -/
def blockOut (c : Dev nD) : Vec F S1x3 .f32 :=
  bodyOut (scalarOf (iblk m c 0 t0_0)) (hHbm.view.read (Elt F) (V m c main_v0)) (wiHbm.view.read (Elt F) (V m c main_v1))
    (wbHbm.view.read (Elt F) (V m c main_v2)) (woHbm.view.read (Elt F) (V m c main_arg5))
    (wHbm.view.read (Elt F) (V m c main_arg2))

/-- The pipeline's proof data: the arrays as the region finds them; after the body the scalar's block as it was and the
    result block at `blockOut`; the invariant as listed in the set-up; nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => blockOut m c
  Φ _ := Pipeline.ΦD ownCells spec0 copied (V m) c
  q _ := fullShare
  owed _ := 0

/-- The proof data's arrays are what the region finds. -/
theorem arrays_eq (c : Dev nD) (w : Fin cfg0.W) : (dats m 0 c).A w = V m c (Pipeline.arrRef spec0 w) := by
  dsimp only [dats]

/-- The scalar's block is as it was after the body. -/
theorem after_scalar (c : Dev nD) (t : Fin cfg0.N) : (dats m 0 c).after 0 t = iblk m c 0 t := by dsimp only [dats]

/-- The result block after the body. -/
theorem after_result (c : Dev nD) (t : Fin cfg0.N) : (dats m 0 c).after 1 t = blockOut m c := by dsimp only [dats]

/-- Before the body, the scalar's staging buffer holds the scalar's block. -/
theorem before_scalar (c : Dev nD) (t : Fin cfg0.N) (d) : (dats m 0 c).before 0 t d = iblk m c 0 t :=
  ((dats m 0 c).before_in_eq_fetched 0 rfl (fun _ => rfl) (fun _ _ _ => rfl)
    (fun t => by rw [after_scalar]; unfold Dat.blockOf iblk; rw [arrays_eq]) t d).trans
    (by unfold Dat.fetched Dat.blockOf iblk; rw [arrays_eq]; try rfl)

/-- The body at the grid's point, from the invariant and the windows' staging buffers back to them. -/
theorem body_sound (c : Dev nD) (t : Fin cfg0.N) :
    iprop((dats m 0 c).Φ t.castSucc ∗ (dats m 0 c).owesAt () t.castSucc
      ∗ (∃ d, owns (c : Thread nD τ) (st0_0 t) fullShare ((dats m 0 c).before 0 t d))
      ∗ (∃ d, owns (c : Thread nD τ) (st0_1 t) fullShare ((dats m 0 c).before 1 t d)))
    ⊢ wp frame (wpE (defs₀ (F := F)) Variants.none c none) Set.univ (bodyAt0 t) (fun _ =>
      iprop((dats m 0 c).Φ t.succ ∗ (dats m 0 c).owesAt () t.succ
        ∗ owns (c : Thread nD τ) (st0_0 t) fullShare ((dats m 0 c).after 0 t)
        ∗ owns (c : Thread nD τ) (st0_1 t) fullShare ((dats m 0 c).after 1 t))) := by
  unfold bodyAt0
  simp only [before_scalar]
  rw [show (dats m 0 c).Φ t.succ = (dats m 0 c).Φ t.castSucc from rfl, after_scalar, after_result,
    show (dats m 0 c).Φ t.castSucc = Pipeline.ΦD ownCells spec0 copied (V m) c from rfl, invariant_eq]
  unfold Dat.owesAt Pipeline.owesWithin
  rw [show (dats m 0 c).owed t.castSucc = 0 from rfl, show (dats m 0 c).owed t.succ = 0 from rfl, blockOut, ← fin_N0 t]
  iintro ⟨⟨⟨HS0, HS1, HS2, HS3, HS4⟩, Hg, ⟨Hq0, Hq1, Hq2, Hq3, Hq4⟩, ⟨Hh0, Hh1, Hh2, Hh3, Hh4⟩⟩, ⟨%P, -, HP⟩, ⟨%d0, H0⟩, ⟨%d1, H1⟩⟩
  iapply (body_run c _ _ _ _ (iblk m c 0 t) (V m c main_v0) (V m c main_v1) (V m c main_v2) (V m c main_arg5) (V m c main_arg2) P _)
  isplitl [H0]; · iexact H0
  isplitl [H1]; · iexists _; iexact H1
  isplitl [HS0]; · iexact HS0
  isplitl [HS1]; · iexact HS1
  isplitl [HS2]; · iexact HS2
  isplitl [HS3]; · iexact HS3
  isplitl [HS4]; · iexact HS4
  isplitl [Hq0]; · iexact Hq0
  isplitl [Hq1]; · iexact Hq1
  isplitl [Hq2]; · iexact Hq2
  isplitl [Hq3]; · iexact Hq3
  isplitl [Hq4]; · iexact Hq4
  isplitl [Hh0]; · iexact Hh0
  isplitl [Hh1]; · iexact Hh1
  isplitl [Hh2]; · iexact Hh2
  isplitl [Hh3]; · iexact Hh3
  isplitl [Hh4]; · iexact Hh4
  isplitl [HP]; · iexact HP
  iintro ⟨H0, H1, HS0, HS1, HS2, HS3, HS4, Hq0, Hq1, Hq2, Hq3, Hq4, Hh0, Hh1, Hh2, Hh3, Hh4, ⟨%P', HP⟩⟩
  isplitl [HS0 HS1 HS2 HS3 HS4 Hq0 Hq1 Hq2 Hq3 Hq4 Hh0 Hh1 Hh2 Hh3 Hh4 Hg]
  · isplitl [HS0 HS1 HS2 HS3 HS4]
    · isplitl [HS0]; · iexact HS0
      isplitl [HS1]; · iexact HS1
      isplitl [HS2]; · iexact HS2
      isplitl [HS3]; · iexact HS3
      iexact HS4
    isplitl [Hg]; · iexact Hg
    isplitl [Hq0 Hq1 Hq2 Hq3 Hq4]
    · isplitl [Hq0]; · iexact Hq0
      isplitl [Hq1]; · iexact Hq1
      isplitl [Hq2]; · iexact Hq2
      isplitl [Hq3]; · iexact Hq3
      iexact Hq4
    isplitl [Hh0]; · iexact Hh0
    isplitl [Hh1]; · iexact Hh1
    isplitl [Hh2]; · iexact Hh2
    isplitl [Hh3]; · iexact Hh3
    iexact Hh4
  isplitl [HP]
  · iexists P'; isplitr; · ipureintro; exact fun _ _ => Or.inl trivial
    iexact HP
  isplitl [H0]; · iexact H0
  iexact H1

/-- The body table's entry at the point is the body as the kit spells it. -/
theorem body_entry (t : Fin cfg0.N) :
    defs₀ (F := F) .tc cfg0.body (cfg0.bodyArgs t (cfg0.slots t)) = bodyAt0 t := by
  unfold defs₀; rw [Defs.onTc_tc]

/-- The body obligation of the launch theorem. -/
theorem body_obligation (c : Dev nD) :
    BodyObligation (dats (F := F) m 0 c) (defs₀ (F := F)) Variants.none () Set.univ := fun t => by
  rw [bigSep_W0, bigSep_W0, body_entry]
  exact triple_restated (body_sound m c t) rfl .rfl fun _ => .rfl

/-! ## The run of @main -/

set_option backward.isDefEq.respectTransparency.types false in
set_option maxHeartbeats 800000 in
/-- The launch: the windows' arrays at the end, every other array as the host line after the kernel leaves it, every
    semaphore at zero. -/
theorem launch_run : θ_run defs (onTc (τ := τ) (main (F := F))) (s₀ m ρ)
    (fun r => Pipeline.FramePost cfgs (dats m) 0 (Pipeline.afterTail₀ cfgs (dats m) 0 (V0 m) [hostOps1]) r
      ∧ r.2.sem = fun _ => 0) :=
  Pipeline.θ_run_frame_dma_around (Q' := _) cfgs (dats m) (0 : Fin 1) launch0 ownCells defs₀ Variants.none ownCells_facts
    copied copied_sub m ρ main
    (hbody := fun c => (body_obligation m c).loose) (hshare := fun c => (dats m 0 c).share_full fun _ => rfl)
    (howed := fun _ _ => rfl) (V₀ := V0 m) (opss := [hostOps1]) (hsub := tail_apart) (hfresh := sfx_fresh) (hkeep := sfx_keeps)
    (hmain := main_around m Variants.none) (hA := arrays_eq m) (hin := fun _ => .rfl) (hout := fun _ => .rfl)

/-- The kernel's result array at the end: the one block, whole. -/
theorem result_block (c : Dev nD) :
    (dats m 0 c).arrAt 1 (cfgs 0).N = (blockOut m c : S1x3.Idx → Elt F .f32) := by
  refine (dats m 0 c).arrAt_eq_of_after_last 1 t0_0 (by decide +kernel) _ fun j => ?_
  blk_simp
  rw [after_result]

/-- @main's result at the end: the block at the result's shape. -/
def resultOf (c : Dev nD) : Vec F S3 .f32 := shapeCast S3 (blockOut m c) shapeCasts_S1x3_S3

/-- What the host line after the kernel leaves in @main's result. -/
theorem result_tail (c : Dev nD) :
    Pipeline.afterTail₀ cfgs (dats m) 0 (V0 m) [hostOps1] c main_v4 = (resultOf m c : S3.Idx → Elt F .f32) := by
  unfold Pipeline.afterTail₀
  simp only [hostOps1, List.flatten_cons, List.flatten_nil, List.append_nil, StableHlo.after_cons, StableHlo.after_nil]
  refine (StableHlo.reshape_result main_v3 main_v4 rfl shapeCasts_S1x3_S3 _ _ _).trans ?_
  have hv : Pipeline.withArrays (cfgs 0).spec c (V0 m c) (fun w => (dats m 0 c).arrAt w (cfgs 0).N) (Proc.devRef .tc main_v3)
      = (blockOut m c : S1x3.Idx → Elt F .f32) :=
    (Pipeline.withArrays_arr spec0 winFacts0.arr_inj c (V0 m c) _ 1).trans (result_block m c)
  unfold resultOf
  rw [← hv]
  rfl

/-- The whole run: @main's result at `resultOf`, every argument array unchanged, every semaphore at zero. -/
theorem run : θ_run defs (onTc (τ := τ) (main (F := F))) ⟨m, fun _ => 0, ρ⟩ (fun r => (∀ c : Dev nD,
      r.2.mem ((c.tc : Thread nD τ).loc main_v4) = resultOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨((h.1 c).2 main_v4 (Pipeline.mem_restRefs_of main_v4 (by decide) (by decide))).trans (result_tail m c),
      ((h.1 c).1 0).trans (((dats m 0 c).arrAt_in 0 rfl _).trans ((arrays_eq m c 0).trans (V_main_arg0 m c))),
      ((h.1 c).2 main_arg1 (Pipeline.mem_restRefs_of main_arg1 (by decide) (by decide))).trans
        ((tail_keeps m (dats m) c main_arg1 (by decide) (by decide)).trans (V_main_arg1 m c)),
      ((h.1 c).2 main_arg2 (Pipeline.mem_restRefs_of main_arg2 (by decide) (by decide))).trans
        ((tail_keeps m (dats m) c main_arg2 (by decide) (by decide)).trans (V_main_arg2 m c)),
      ((h.1 c).2 main_arg3 (Pipeline.mem_restRefs_of main_arg3 (by decide) (by decide))).trans
        ((tail_keeps m (dats m) c main_arg3 (by decide) (by decide)).trans (V_main_arg3 m c)),
      ((h.1 c).2 main_arg4 (Pipeline.mem_restRefs_of main_arg4 (by decide) (by decide))).trans
        ((tail_keeps m (dats m) c main_arg4 (by decide) (by decide)).trans (V_main_arg4 m c)),
      ((h.1 c).2 main_arg5 (Pipeline.mem_restRefs_of main_arg5 (by decide) (by decide))).trans
        ((tail_keeps m (dats m) c main_arg5 (by decide) (by decide)).trans (V_main_arg5 m c))⟩, h.2⟩) (launch_run m ρ)

end Cert.KernelIdeal.Hand

end
-- ==== Proof.SameText.lean ====
/-
  The kernel as printed and its idealization are one text, so at any one reading of the floats they are one program: their
  bodies, tables and @main are equal, and what is proved of the one's runs holds of the other's.
-/
module

public import proofs.«01_k».proof.Defs
public import proofs.«01_k».proof.Proof.Gen.Kernel
public import proofs.«01_k».proof.Proof.IdealFrame

@[expose] public section

noncomputable section

namespace Cert.SameText

open Idealize.ShloMosaic Idealize.SL.Sem

/-- A run of one program is a run of an equal one. -/
theorem run_of_eq {nD : Nat} {τ : Topo} {sig : RefSig} {Val : EltTy → Type} {Λ : Labels} {D D' : Defs nD τ sig Val Λ}
    {p p' : (c : Thread nD τ) → Prog (TpuEff nD τ sig Val Λ c.2) PUnit} (hD : D = D') (hp : p = p')
    {s : MemSt nD τ sig Val} {Q : PUnit × MemSt nD τ sig Val → Prop} (h : θ_run D' p' s Q) : θ_run D p s Q := by
  subst hD hp; exact h

/-- The two kernel functions are equal. -/
theorem body_same : Cert.Kernel.cc0__body (F := Bits) = Cert.KernelIdeal.cc0__body (F := Bits) := rfl

/-- The two body tables are equal: each has one entry, the kernel function at the same operands. -/
theorem table_same : Cert.Kernel.defs₀ (F := Bits) = Cert.KernelIdeal.defs₀ (F := Bits) := by
  unfold Cert.Kernel.defs₀ Cert.KernelIdeal.defs₀
  refine congrArg Defs.onTc ?_
  funext l a
  match l, a with
  | ⟨0, _⟩, (t, s) => exact congrFun rfl _

/-- The two programs' tables, with the launch, are equal. -/
theorem defs_same : Cert.Kernel.defs (F := Bits) = Cert.KernelIdeal.defs (F := Bits) :=
  congrArg (Pipeline.defs (Cert.KernelIdeal.pcfgs (F := Bits))) table_same

/-- The two @mains are equal. -/
theorem main_same : Cert.Kernel.main (F := Bits) = Cert.KernelIdeal.main (F := Bits) := rfl

/-- The kernel as printed runs, its arguments unchanged, every semaphore at zero. -/
theorem frame_kernel : Cert.quiescent_Kernel := fun m g _ =>
  run_of_eq defs_same (congrArg onTc main_same)
    ((θ_run _ _ _).mono (fun _ h => ⟨fun c => (h.1 c).2, h.2⟩) (Cert.KernelIdeal.Hand.run (F := Bits) m g))

end Cert.SameText

end
-- ==== Proof.Maths.lean ====
/-
  The mathematics of the kernel on plain sequences of extended reals, with no program in sight: the new state of a leaky
  recurrent layer, one output of it, that output summed in blocks of 512, and what is left of the new state when the old
  one is zero everywhere.
-/
module

public import Idealize.ShloMosaic.PureOps.Ideal

@[expose] public section

noncomputable section

namespace Cert.Maths

open Idealize.ShloMosaic

/-- The two constants of the layer, as the programs spell them: the share of the new activation. -/
abbrev fresh : EReal := Ideal.ofBits .f32 0x3E99999A#32

/-- The share of the old state that is kept. -/
abbrev kept : EReal := Ideal.ofBits .f32 0x3F333333#32

/-- Entry `i` of the new state: a share of the activation of `wi·x + wb + W h`, and a share of the old state. -/
def newState (x : EReal) (h wi wb : Fin 8192 → EReal) (W : Fin 8192 → Fin 8192 → EReal) (i : Fin 8192) : EReal :=
  fresh * Ideal.tanh (wi i * x + wb i + ∑ j, W i j * h j) + kept * h i

/-- One output: the new state times a row of output weights. -/
def output (x : EReal) (h wi wb : Fin 8192 → EReal) (W : Fin 8192 → Fin 8192 → EReal) (wo : Fin 8192 → EReal) : EReal :=
  ∑ i, wo i * newState x h wi wb W i

/-- Entry `r` of block `k`. -/
def entry (k : Fin 16) (r : Fin 512) : Fin 8192 := ⟨512 * k.val + r.val, by omega⟩

/-- A sum over all entries is the sum over the 16 blocks of the sums over their 512 entries. -/
theorem sum_blocks (f : Fin 8192 → EReal) : ∑ i, f i = ∑ k, ∑ r, f (entry k r) := by
  rw [← Fintype.sum_prod_type']
  refine (Equiv.sum_comp (finProdFinEquiv (m := 16) (n := 512)) (fun i => f i)).symm.trans ?_
  refine Finset.sum_congr rfl fun p _ => congrArg f (Fin.ext ?_)
  show p.2.val + 512 * p.1.val = 512 * p.1.val + p.2.val
  omega

/-- What the kernel adds for one block: the block's new states in the order it computes them, times the block's output
    weights. -/
def blockTerm (x : EReal) (h wi wb : Fin 8192 → EReal) (W : Fin 8192 → Fin 8192 → EReal) (wo : Fin 8192 → EReal)
    (k : Fin 16) : EReal :=
  ∑ r, (fresh * Ideal.tanh (∑ j, h j * W (entry k r) j + wi (entry k r) * x + wb (entry k r))
    + kept * h (entry k r)) * wo (entry k r)

/-- The blocks together are the output: the products and the sum inside the activation commute. -/
theorem sum_blockTerm (x : EReal) (h wi wb : Fin 8192 → EReal) (W : Fin 8192 → Fin 8192 → EReal) (wo : Fin 8192 → EReal) :
    ∑ k, blockTerm x h wi wb W wo k = output x h wi wb W wo := by
  unfold output
  rw [sum_blocks]
  refine Finset.sum_congr rfl fun k _ => Finset.sum_congr rfl fun r _ => ?_
  unfold newState
  have hp : ∑ j, h j * W (entry k r) j = ∑ j, W (entry k r) j * h j := Finset.sum_congr rfl fun j _ => mul_comm _ _
  rw [hp, add_assoc, add_comm (∑ j, W (entry k r) j * h j), mul_comm]

/-- From a zero state the output needs neither the recurrent weights nor the kept share. -/
theorem output_of_zero (x : EReal) (h wi wb : Fin 8192 → EReal) (W : Fin 8192 → Fin 8192 → EReal) (wo : Fin 8192 → EReal)
    (hz : ∀ j, h j = 0) : ∑ i, fresh * Ideal.tanh (wi i * x + wb i) * wo i = output x h wi wb W wo := by
  unfold output
  refine Finset.sum_congr rfl fun i _ => ?_
  unfold newState
  simp only [hz, mul_zero, Finset.sum_const_zero, add_zero]
  rw [mul_comm]

end Cert.Maths

end
-- ==== Proof.IdealStep.lean ====
/-
  The values the kernel body of `KernelIdeal` computes, read at an index over the extended reals: the short product, one
  trip's sum, the test of the state, and the blocks a trip reads.
-/
module

public import proofs.«01_k».proof.Proof.IdealBlock
public import proofs.«01_k».proof.Proof.Maths
public import Idealize.ShloMosaic.Lib.Pointwise
public import Idealize.ShloMosaic.Lib.Pipeline.ValueKit

@[expose] public section

set_option maxRecDepth 16384

noncomputable section

namespace Cert.KernelIdeal.Hand

open Idealize.ShloMosaic Cert.KernelIdeal.Gen Cert.Maths

/-- A row vector as a sequence. -/
abbrev seqOf (v : Vec Ideal S1x8192 .f32) (i : Fin 8192) : EReal := v (ix2 0 i)

/-- The short product at an output: the activations without the recurrent term, times the output weights. -/
theorem short_at (x : EReal) (wi wb : Vec Ideal S1x8192 .f32) (wo : Vec Ideal S3x8192 .f32) (q : Fin 3) :
    k0_pay2 (F := Ideal) x wi wb wo (ix2 0 q)
      = ∑ i, fresh * Ideal.tanh (seqOf wi i * x + seqOf wb i) * wo (ix2 q i) := by
  unfold k0_pay2
  pointwise

/-- One trip at an output: the accumulator plus the block's new states times its output weights. -/
theorem trip_at (x : EReal) (h : Vec Ideal S1x8192 .f32) (acc : Vec Ideal S1x3 .f32) (W : Vec Ideal S512x8192 .f32)
    (wi wb hc : Vec Ideal S1x512 .f32) (wo : Vec Ideal S3x512 .f32) (q : Fin 3) :
    k0_pay4 (F := Ideal) x h acc W wi wb hc wo (ix2 0 q)
      = acc (ix2 0 q) + ∑ r, (fresh * Ideal.tanh (∑ j, seqOf h j * W (ix2 r j) + wi (ix2 0 r) * x + wb (ix2 0 r))
          + kept * hc (ix2 0 r)) * wo (ix2 q r) := by
  unfold k0_pay4
  pointwise

/-- The accumulator starts at zero. -/
theorem start_at (q : Fin 3) : k0_pay3 (F := Ideal) (ix2 0 q) = 0 := by
  unfold k0_pay3
  pointwise

/-- The smallest of the flags "this entry of the state is zero". -/
theorem flags_min (h : Vec Ideal S1x8192 .f32) :
    k0_pay1 (F := Ideal) h = Finset.fold min (Ideal.ofBits .f32 0x7F800000#32)
      (fun p : Fin 1 × Fin 8192 => if seqOf h p.2 = 0 then (1 : EReal) else 0) Finset.univ := by
  unfold k0_pay1
  pointwise

/-- The comparison the test makes: above the zero word is above zero. -/
theorem above_zero (a : Ideal .f32) (h : Scalar.cmpf .ogt a (Scalar.ofBits .f32 0x00000000#32) = 1#1) :
    (0 : EReal) < a := by
  by_contra hn
  have hz : (Scalar.ofBits .f32 0x00000000#32 : Ideal .f32) = (0 : EReal) := by pointwise
  rw [hz] at h
  have hb : Scalar.cmpf .ogt a ((0 : EReal) : Ideal .f32) = BitVec.ofBool (decide ((0 : EReal) < a)) := rfl
  rw [hb, decide_eq_false hn] at h
  exact absurd h (by decide)

/-- The test holds only of a state that is zero everywhere. -/
theorem zero_of_test (h : Vec Ideal S1x8192 .f32) (ht : zeroTest h = 1#1) (j : Fin 8192) : seqOf h j = 0 := by
  have hlt := above_zero _ ht
  rw [flags_min, Finset.lt_fold_min] at hlt
  have := hlt.2 (0, j) (Finset.mem_univ _)
  by_contra hne
  simp only [if_neg hne, lt_self_iff_false] at this

/-- The loop makes 16 trips. -/
theorem trips_eq : k0_t1_loop.trips = 16 := by decide +kernel

/-- A trip of the loop, as the number of a block. -/
def blockOf (k : Fin k0_t1_loop.trips) : Fin 16 := Fin.cast trips_eq k

/-- Row `r` of a trip's rows. -/
theorem rowsAt_at (W : Vec Ideal S8192x8192 .f32) (k : Fin k0_t1_loop.trips) (r : Fin 512) (j : Fin 8192) :
    rowsAt W k (ix2 r j) = W (ix2 (entry (blockOf k) r) j) := by
  unfold rowsAt
  refine View.ld_unit_apply_of W _ _ _ (ix2 r j) (ix2 (entry (blockOf k) r) j) fun a => ?_
  refine Eq.trans ?_ (congrArg (· + ((ix2 r j) a).val) (congrFun (k0_off1_eq k) a).symm)
  match a with
  | ⟨0, _⟩ => rfl
  | ⟨1, _⟩ => exact (Nat.zero_add _).symm

/-- Entry `r` of a trip's part of a row vector. -/
theorem colsAt_at (v : Vec Ideal S1x8192 .f32) (k : Fin k0_t1_loop.trips) (r : Fin 512) :
    colsAt v k (ix2 0 r) = seqOf v (entry (blockOf k) r) := by
  unfold colsAt
  refine View.ld_unit_apply_of v _ _ _ (ix2 0 r) (ix2 0 (entry (blockOf k) r)) fun a => ?_
  refine Eq.trans ?_ (congrArg (· + ((ix2 (0 : Fin 1) r) a).val) (congrFun (k0_off2_eq k) a).symm)
  match a with
  | ⟨0, _⟩ => rfl
  | ⟨1, _⟩ => rfl

/-- Column `r` of a trip's output weights. -/
theorem outColsAt_at (wo : Vec Ideal S3x8192 .f32) (k : Fin k0_t1_loop.trips) (q : Fin 3) (r : Fin 512) :
    outColsAt wo k (ix2 q r) = wo (ix2 q (entry (blockOf k) r)) := by
  unfold outColsAt
  refine View.ld_unit_apply_of wo _ _ _ (ix2 q r) (ix2 q (entry (blockOf k) r)) fun a => ?_
  refine Eq.trans ?_ (congrArg (· + ((ix2 q r) a).val) (congrFun (k0_off3_eq k) a).symm)
  match a with
  | ⟨0, _⟩ => exact (Nat.zero_add _).symm
  | ⟨1, _⟩ => rfl

end Cert.KernelIdeal.Hand

end
-- ==== Proof.IdealSum.lean ====
/-
  The result block of `KernelIdeal` over the extended reals: the loop's accumulator as a sum over blocks, and the block,
  whichever way the test goes, as the layer's output.
-/
module

public import proofs.«01_k».proof.Proof.IdealStep

@[expose] public section

set_option maxRecDepth 16384

noncomputable section

namespace Cert.KernelIdeal.Hand

open Idealize.ShloMosaic Cert.KernelIdeal.Gen Cert.Maths

/-- The rows of a square matrix as sequences. -/
abbrev matOf (W : Vec Ideal S8192x8192 .f32) (i j : Fin 8192) : EReal := W (ix2 i j)

/-- A row of the output weights as a sequence. -/
abbrev rowOf (wo : Vec Ideal S3x8192 .f32) (q : Fin 3) (i : Fin 8192) : EReal := wo (ix2 q i)

variable (x : EReal) (h wi wb : Vec Ideal S1x8192 .f32) (wo : Vec Ideal S3x8192 .f32) (W : Vec Ideal S8192x8192 .f32)
  (q : Fin 3)

/-- One trip adds its block's term. -/
theorem stepAt_at (k : Fin k0_t1_loop.trips) (acc : Vec Ideal S1x3 .f32) :
    stepAt (F := Ideal) x h wi wb wo W k acc (ix2 0 q)
      = acc (ix2 0 q) + blockTerm x (seqOf h) (seqOf wi) (seqOf wb) (matOf W) (rowOf wo q) (blockOf k) := by
  unfold stepAt blockTerm
  rw [trip_at]
  simp only [rowsAt_at, colsAt_at, outColsAt_at]

/-- The term of block `n`, nothing past the last block. -/
def termAt (n : ℕ) : EReal :=
  if hn : n < 16 then blockTerm x (seqOf h) (seqOf wi) (seqOf wb) (matOf W) (rowOf wo q) ⟨n, hn⟩ else 0

/-- The accumulator before trip `n` is the sum of the first `n` blocks' terms. -/
theorem sumTo_at (n : ℕ) (hn : n ≤ 16) :
    sumTo (F := Ideal) x h wi wb wo W n (ix2 0 q) = ∑ k ∈ Finset.range n, termAt x h wi wb wo W q k := by
  induction n with
  | zero => rw [Finset.range_zero, Finset.sum_empty]; exact start_at q
  | succ n ih =>
    have hlt : n < k0_t1_loop.trips := by rw [trips_eq]; omega
    rw [Finset.sum_range_succ, ← ih (by omega)]
    have hs : sumTo (F := Ideal) x h wi wb wo W (n + 1)
        = stepAt x h wi wb wo W ⟨n, hlt⟩ (sumTo x h wi wb wo W n) := dif_pos hlt
    have ht : termAt x h wi wb wo W q n
        = blockTerm x (seqOf h) (seqOf wi) (seqOf wb) (matOf W) (rowOf wo q) ⟨n, by omega⟩ := dif_pos (by omega)
    rw [hs, stepAt_at, ht]
    rfl

/-- The whole loop's sum is the layer's output. -/
theorem loop_at : sumTo (F := Ideal) x h wi wb wo W k0_t1_loop.trips (ix2 0 q)
    = output x (seqOf h) (seqOf wi) (seqOf wb) (matOf W) (rowOf wo q) := by
  rw [trips_eq, sumTo_at x h wi wb wo W q 16 (le_refl 16), Finset.sum_range, ← sum_blockTerm]
  exact Finset.sum_congr rfl fun k _ => dif_pos k.isLt

/-- The result block is the layer's output, whichever way the test goes. -/
theorem bodyOut_at : bodyOut (F := Ideal) x h wi wb wo W (ix2 0 q)
    = output x (seqOf h) (seqOf wi) (seqOf wb) (matOf W) (rowOf wo q) := by
  unfold bodyOut
  split
  · rename_i ht
    rw [short_at]
    exact output_of_zero x (seqOf h) (seqOf wi) (seqOf wb) (matOf W) (rowOf wo q) (zero_of_test h ht)
  · exact loop_at x h wi wb wo W q

end Cert.KernelIdeal.Hand

end
-- ==== Proof.IdealValue.lean ====
/-
  @main's result of `KernelIdeal` over the extended reals: the layer's output at the arguments' launch contents.
-/
module

public import proofs.«01_k».proof.Proof.IdealSum
public import proofs.«01_k».proof.Proof.IdealFrame

@[expose] public section

set_option maxRecDepth 16384

noncomputable section

namespace Cert.KernelIdeal.Hand

open Idealize.ShloMosaic Idealize.ShloMosaic.TcCoe Cert.KernelIdeal.Gen Cert.Maths

/-- An output of the layer at six argument arrays. -/
def outputAt (a0 : Vec Ideal S1 .f32) (a1 : Vec Ideal S8192 .f32) (a2 : Vec Ideal S8192x8192 .f32)
    (a3 a4 : Vec Ideal S8192 .f32) (a5 : Vec Ideal S3x8192 .f32) (q : Fin 3) : EReal :=
  output (a0 (ix1 0)) (fun i => a1 (ix1 i)) (fun i => a3 (ix1 i)) (fun i => a4 (ix1 i)) (matOf a2) (rowOf a5 q)

variable (m : (ℓ : Loc nD τ sig) → Buf (Elt Ideal) ℓ) (c : Dev nD)

/-- A vector viewed as one row, at an entry. -/
theorem row_at (v : Vec Ideal S8192 .f32) (i : Fin 8192) :
    shapeCast S1x8192 v shapeCasts_S8192_S1x8192 (ix2 0 i) = v (ix1 i) := by
  pointwise

/-- A vector viewed as one row, as a sequence. -/
theorem seqOf_row (v : Vec Ideal S8192 .f32) :
    seqOf (shapeCast S1x8192 v shapeCasts_S8192_S1x8192) = fun i => v (ix1 i) := funext (row_at v)

/-- The result at its own shape, at an entry. -/
theorem flat_at (v : Vec Ideal S1x3 .f32) (q : Fin 3) : shapeCast S3 v shapeCasts_S1x3_S3 (ix1 q) = v (ix2 0 q) := by
  pointwise

/-- The region finds the state as one row. -/
theorem entry_state : V m c main_v0
    = (shapeCast S1x8192 (m ((c.tc : Thread nD τ).loc main_arg1) : Vec Ideal S8192 .f32) shapeCasts_S8192_S1x8192
        : Vec Ideal S1x8192 .f32) := by
  unfold V V0
  simp only [hostOps0, List.flatten_cons, List.flatten_nil, List.append_nil, List.cons_append, List.nil_append]
  after_results <;> rfl

/-- The region finds the input weights as one row. -/
theorem entry_weights : V m c main_v1
    = (shapeCast S1x8192 (m ((c.tc : Thread nD τ).loc main_arg3) : Vec Ideal S8192 .f32) shapeCasts_S8192_S1x8192
        : Vec Ideal S1x8192 .f32) := by
  unfold V V0
  simp only [hostOps0, List.flatten_cons, List.flatten_nil, List.append_nil, List.cons_append, List.nil_append]
  after_results <;> rfl

/-- The region finds the bias as one row. -/
theorem entry_bias : V m c main_v2
    = (shapeCast S1x8192 (m ((c.tc : Thread nD τ).loc main_arg4) : Vec Ideal S8192 .f32) shapeCasts_S8192_S1x8192
        : Vec Ideal S1x8192 .f32) := by
  unfold V V0
  simp only [hostOps0, List.flatten_cons, List.flatten_nil, List.append_nil, List.cons_append, List.nil_append]
  after_results <;> rfl

/-- The scalar the body loads is the first argument's word. -/
theorem scalar_eq : scalarOf (iblk m c 0 t0_0) = (m ((c.tc : Thread nD τ).loc main_arg0) : Vec Ideal S1 .f32) (ix1 0) := by
  rw [← V_main_arg0 m c]
  unfold scalarOf iblk
  refine congrArg (V m c main_arg0 : Vec Ideal S1 .f32) (funext fun a => ?_)
  match a with
  | ⟨0, _⟩ => exact Fin.ext (Nat.lt_one_iff.mp (Fin.isLt _))

/-- @main's result at an entry is the layer's output at the arguments. -/
theorem resultOf_at (q : Fin 3) : resultOf m c (ix1 q)
    = outputAt (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5)) q := by
  unfold resultOf
  rw [flat_at]
  unfold blockOut
  rw [bodyOut_at, scalar_eq]
  have e0 : (hHbm.view.read (Elt Ideal) (V m c main_v0) : Vec Ideal S1x8192 .f32) = V m c main_v0 := rfl
  have e1 : (wiHbm.view.read (Elt Ideal) (V m c main_v1) : Vec Ideal S1x8192 .f32) = V m c main_v1 := rfl
  have e2 : (wbHbm.view.read (Elt Ideal) (V m c main_v2) : Vec Ideal S1x8192 .f32) = V m c main_v2 := rfl
  have e3 : (woHbm.view.read (Elt Ideal) (V m c main_arg5) : Vec Ideal S3x8192 .f32) = V m c main_arg5 := rfl
  have e4 : (wHbm.view.read (Elt Ideal) (V m c main_arg2) : Vec Ideal S8192x8192 .f32) = V m c main_arg2 := rfl
  rw [e0, e1, e2, e3, e4, entry_state, entry_weights, entry_bias, V_main_arg5, V_main_arg2, seqOf_row, seqOf_row, seqOf_row]
  rfl

end Cert.KernelIdeal.Hand

end
-- ==== Proof.RefValue.lean ====
/-
  The reference: its run with every semaphore at zero, and its result over the extended reals as the layer's output at the
  arguments.
-/
module

public import proofs.«01_k».proof.Proof.Maths
public import proofs.«01_k».proof.Proof.Gen.ReferenceIdeal.Run
public import Idealize.ShloMosaic.Lib.Pointwise
public import Idealize.ShloMosaic.Lib.Quiescent

@[expose] public section

set_option maxRecDepth 16384

noncomputable section

namespace Cert.ReferenceIdeal.Hand

open Idealize.ShloMosaic Idealize.ShloMosaic.TcCoe Cert.ReferenceIdeal.Gen Cert.Maths

/-- The reference's operations composed: the term its run leaves in @main's result. -/
def composed (a0 : Vec Ideal S1 .f32) (a1 : Vec Ideal S8192 .f32) (a2 : Vec Ideal S8192x8192 .f32)
    (a3 a4 : Vec Ideal S8192 .f32) (a5 : Vec Ideal S3x8192 .f32) : Vec Ideal S3 .f32 :=
  shapeCast S3 (Host.dotGeneral (F := Ideal) (φ₁ := .f32) (φ₂ := .f32) dot_S3x8192_S8192x1_S3x1_1_0_0_1_n_n none a5
    (broadcastInDim S8192x1 ![0] bcast_S8192_S8192x1_0
      (addf
        (mulf (broadcastInDim S8192 ![] bcast_S_S8192 (constant S_ .f32 0x3E99999A#32))
          (Host.tanh (addf (addf (mulf a3 (broadcastInDim S8192 ![0] bcast_S1_S8192_0 a0)) a4)
            (Host.dotGeneral (φ₁ := .f32) (φ₂ := .f32) dot_S8192x8192_S8192_S8192_1_0_0_n_n_n none a2 a1))))
        (mulf (broadcastInDim S8192 ![] bcast_S_S8192 (constant S_ .f32 0x3F333333#32)) a1)))) shapeCasts_S3x1_S3

/-- That term at an entry is the layer's output. -/
theorem composed_at (a0 : Vec Ideal S1 .f32) (a1 : Vec Ideal S8192 .f32) (a2 : Vec Ideal S8192x8192 .f32)
    (a3 a4 : Vec Ideal S8192 .f32) (a5 : Vec Ideal S3x8192 .f32) (q : Fin 3) :
    composed a0 a1 a2 a3 a4 a5 (ix1 q)
      = output (a0 (ix1 0)) (fun i => a1 (ix1 i)) (fun i => a3 (ix1 i)) (fun i => a4 (ix1 i)) (fun i j => a2 (ix2 i j))
          (fun i => a5 (ix2 q i)) := by
  unfold composed output newState
  pointwise

/-- The reference has no semaphore, so every final state's counters are zero. -/
theorem no_semaphores (s : MemSt nD τ sig (Elt Ideal)) : s.sem = fun _ => 0 := sem_eq_zero_of_no_sems rfl s

end Cert.ReferenceIdeal.Hand

end
-- ==== Proof.lean ====
/-
  The proof of `Cert.Claim`: each program runs, leaves its arguments as they were and every semaphore at zero; and over the
  extended reals the kernel and the reference end with the same result from the same arguments.
-/
module

public import proofs.«01_k».proof.Defs
public import proofs.«01_k».proof.Proof.Gen.ReferenceIdeal.Run
public import proofs.«01_k».proof.Proof.SameText
public import proofs.«01_k».proof.Proof.IdealValue
public import proofs.«01_k».proof.Proof.RefValue
public import Idealize.ShloMosaic.Adequacy
public import Idealize.ShloMosaic.Init

@[expose] public section

noncomputable section

namespace Cert.Proof

open Idealize.ShloMosaic Idealize.SL.Sem

/-- The idealized kernel runs, its arguments unchanged, every semaphore at zero. -/
theorem frame_ideal : Cert.quiescent_KernelIdeal := fun m g _ =>
  (θ_run _ _ _).mono (fun _ h => ⟨fun c => (h.1 c).2, h.2⟩) (Cert.KernelIdeal.Hand.run (F := Ideal) m g)

/-- The reference runs, its arguments unchanged, every semaphore at zero. -/
theorem frame_reference : Cert.quiescent_ReferenceIdeal := fun m g _ =>
  (θ_run _ _ _).mono (fun r h => ⟨fun c => (h c).2, Cert.ReferenceIdeal.Hand.no_semaphores r.2⟩)
    (Cert.ReferenceIdeal.Value.run (F := Ideal) m g)

/-- The kernel and the reference end with the same result: at every entry the layer's output at the arguments. -/
theorem same_result : Cert.algebraic_KernelIdeal_ReferenceIdeal := fun m g m' g' _ hm =>
  ⟨fun c => Cert.KernelIdeal.Hand.resultOf m c,
    (θ_run _ _ _).mono (fun _ h => h.1) (Cert.KernelIdeal.Hand.run (F := Ideal) m g),
    (θ_run _ _ _).mono (fun _ h c => ⟨(h c).1.trans (by
      obtain ⟨e0, e1, e2, e3, e4, e5⟩ := hm c
      rw [e0, e1, e2, e3, e4, e5]
      funext j
      obtain ⟨q, rfl⟩ : ∃ q : Fin 3, j = ix1 q := ⟨j 0, ValueIdx.eq_ix1 j⟩
      exact (Cert.ReferenceIdeal.Hand.composed_at _ _ _ _ _ _ q).trans
        (Cert.KernelIdeal.Hand.resultOf_at m c q).symm), (h c).2⟩)
      (Cert.ReferenceIdeal.Value.run (F := Ideal) m' g')⟩

/-- All claims, under the witnesses of the programs' stated facts. -/
theorem claim : Cert.Claim := ⟨Cert.Kernel.Gen.facts, Cert.KernelIdeal.Gen.facts, Cert.ReferenceIdeal.Gen.facts,
  Cert.SameText.frame_kernel, frame_ideal, frame_reference, trivial, same_result⟩

end Cert.Proof

end
